-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x768 : Shape := ⟨3, ![2, 2048, 768]⟩
abbrev S768 : Shape := ⟨1, ![768]⟩
abbrev S768x8 : Shape := ⟨2, ![768, 8]⟩
abbrev S8 : Shape := ⟨1, ![8]⟩
abbrev S8x768x512 : Shape := ⟨3, ![8, 768, 512]⟩
abbrev S8x512 : Shape := ⟨2, ![8, 512]⟩
abbrev S8x512x768 : Shape := ⟨3, ![8, 512, 768]⟩
abbrev S8x768 : Shape := ⟨2, ![8, 768]⟩
abbrev S4096x768 : Shape := ⟨2, ![4096, 768]⟩
abbrev S1x768 : Shape := ⟨2, ![1, 768]⟩
abbrev S1x8 : Shape := ⟨2, ![1, 8]⟩
abbrev S4096x8 : Shape := ⟨2, ![4096, 8]⟩
abbrev S512x768 : Shape := ⟨2, ![512, 768]⟩
abbrev S512x8 : Shape := ⟨2, ![512, 8]⟩
abbrev S512 : Shape := ⟨1, ![512]⟩
abbrev S512x1 : Shape := ⟨2, ![512, 1]⟩
abbrev S1x768x512 : Shape := ⟨3, ![1, 768, 512]⟩
abbrev S768x512 : Shape := ⟨2, ![768, 512]⟩
abbrev S512x512 : Shape := ⟨2, ![512, 512]⟩
abbrev S1x512 : Shape := ⟨2, ![1, 512]⟩
abbrev S1x512x768 : Shape := ⟨3, ![1, 512, 768]⟩

abbrev nBuf : Space → Nat
  | .hbm => 16
  | .vmem => 14
  | .smem => 0
  | _ => 0

abbrev bufTy : (tb : Table) → Fin (tcTables nBuf tb) → BufTy
  | .hbm, ⟨0, _⟩ => ⟨S2x2048x768, .f32⟩
  | .hbm, ⟨1, _⟩ => ⟨S768, .f32⟩
  | .hbm, ⟨2, _⟩ => ⟨S768, .f32⟩
  | .hbm, ⟨3, _⟩ => ⟨S768x8, .f32⟩
  | .hbm, ⟨4, _⟩ => ⟨S8, .f32⟩
  | .hbm, ⟨5, _⟩ => ⟨S8x768x512, .f32⟩
  | .hbm, ⟨6, _⟩ => ⟨S8x512, .f32⟩
  | .hbm, ⟨7, _⟩ => ⟨S8x512x768, .f32⟩
  | .hbm, ⟨8, _⟩ => ⟨S8x768, .f32⟩
  | .hbm, ⟨9, _⟩ => ⟨S4096x768, .f32⟩
  | .hbm, ⟨10, _⟩ => ⟨S1x768, .f32⟩
  | .hbm, ⟨11, _⟩ => ⟨S1x768, .f32⟩
  | .hbm, ⟨12, _⟩ => ⟨S1x8, .f32⟩
  | .hbm, ⟨13, _⟩ => ⟨S4096x768, .f32⟩
  | .hbm, ⟨14, _⟩ => ⟨S4096x8, .f32⟩
  | .hbm, ⟨15, _⟩ => ⟨S2x2048x768, .f32⟩
  | .local _ .vmem, ⟨0, _⟩ => ⟨S512x768, .f32⟩
  | .local _ .vmem, ⟨1, _⟩ => ⟨S512x768, .f32⟩
  | .local _ .vmem, ⟨2, _⟩ => ⟨S1x768, .f32⟩
  | .local _ .vmem, ⟨3, _⟩ => ⟨S1x768, .f32⟩
  | .local _ .vmem, ⟨4, _⟩ => ⟨S768x8, .f32⟩
  | .local _ .vmem, ⟨5, _⟩ => ⟨S1x8, .f32⟩
  | .local _ .vmem, ⟨6, _⟩ => ⟨S8x768x512, .f32⟩
  | .local _ .vmem, ⟨7, _⟩ => ⟨S8x512, .f32⟩
  | .local _ .vmem, ⟨8, _⟩ => ⟨S8x512x768, .f32⟩
  | .local _ .vmem, ⟨9, _⟩ => ⟨S8x768, .f32⟩
  | .local _ .vmem, ⟨10, _⟩ => ⟨S512x768, .f32⟩
  | .local _ .vmem, ⟨11, _⟩ => ⟨S512x768, .f32⟩
  | .local _ .vmem, ⟨12, _⟩ => ⟨S512x8, .f32⟩
  | .local _ .vmem, ⟨13, _⟩ => ⟨S512x8, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x768x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S2x2048x768 : Shape := ⟨3, ![2, 2048, 768]⟩
abbrev S768 : Shape := ⟨1, ![768]⟩
abbrev S768x8 : Shape := ⟨2, ![768, 8]⟩
abbrev S8 : Shape := ⟨1, ![8]⟩
abbrev S8x768x512 : Shape := ⟨3, ![8, 768, 512]⟩
abbrev S8x512 : Shape := ⟨2, ![8, 512]⟩
abbrev S8x512x768 : Shape := ⟨3, ![8, 512, 768]⟩
abbrev S8x768 : Shape := ⟨2, ![8, 768]⟩
abbrev S4096x768 : Shape := ⟨2, ![4096, 768]⟩
abbrev S_ : Shape := ⟨0, ![]⟩
abbrev S4096 : Shape := ⟨1, ![4096]⟩
abbrev S4096x1 : Shape := ⟨2, ![4096, 1]⟩
abbrev S1x768 : Shape := ⟨2, ![1, 768]⟩
abbrev S4096x8 : Shape := ⟨2, ![4096, 8]⟩
abbrev S1x8 : Shape := ⟨2, ![1, 8]⟩
abbrev S4096x2 : Shape := ⟨2, ![4096, 2]⟩
abbrev S4096x8x512 : Shape := ⟨3, ![4096, 8, 512]⟩
abbrev S1x8x512 : Shape := ⟨3, ![1, 8, 512]⟩
abbrev S8x768x4096 : Shape := ⟨3, ![8, 768, 4096]⟩
abbrev S4096x8x768 : Shape := ⟨3, ![4096, 8, 768]⟩
abbrev S1x8x768 : Shape := ⟨3, ![1, 8, 768]⟩
abbrev S4096x2x1 : Shape := ⟨3, ![4096, 2, 1]⟩
abbrev S1 : Shape := ⟨1, ![1]⟩
abbrev S1x1x1 : Shape := ⟨3, ![1, 1, 1]⟩
abbrev S4096x2x768 : Shape := ⟨3, ![4096, 2, 768]⟩

abbrev nBuf : Space → Nat
  | .hbm => 129
  | .vmem => 0
  | .smem => 0
  | _ => 0

abbrev hbmTy0_0 (i : Nat) : BufTy := match i % 128 with
  | 0 => ⟨S2x2048x768, .f32⟩
  | 1 => ⟨S768, .f32⟩
  | 2 => ⟨S768, .f32⟩
  | 3 => ⟨S768x8, .f32⟩
  | 4 => ⟨S8, .f32⟩
  | 5 => ⟨S8x768x512, .f32⟩
  | 6 => ⟨S8x512, .f32⟩
  | 7 => ⟨S8x512x768, .f32⟩
  | 8 => ⟨S8x768, .f32⟩
  | 9 => ⟨S4096x768, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .i32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S4096x768, .f32⟩
  | 24 => ⟨S4096x768, .f32⟩
  | 25 => ⟨S4096x768, .f32⟩
  | 26 => ⟨S_, .f32⟩
  | 27 => ⟨S_, .f32⟩
  | 28 => ⟨S_, .f32⟩
  | 29 => ⟨S_, .f32⟩
  | 30 => ⟨S4096, .f32⟩
  | 31 => ⟨S4096x1, .f32⟩
  | 32 => ⟨S4096x1, .f32⟩
  | 33 => ⟨S4096x1, .f32⟩
  | 34 => ⟨S_, .f32⟩
  | 35 => ⟨S_, .i1⟩
  | 36 => ⟨S_, .f32⟩
  | 37 => ⟨S_, .f32⟩
  | 38 => ⟨S4096x1, .f32⟩
  | 39 => ⟨S4096x1, .f32⟩
  | 40 => ⟨S4096x768, .f32⟩
  | 41 => ⟨S4096x768, .f32⟩
  | 42 => ⟨S_, .f32⟩
  | 43 => ⟨S4096x1, .f32⟩
  | 44 => ⟨S4096x1, .f32⟩
  | 45 => ⟨S4096x1, .f32⟩
  | 46 => ⟨S4096x768, .f32⟩
  | 47 => ⟨S4096x768, .f32⟩
  | 48 => ⟨S1x768, .f32⟩
  | 49 => ⟨S4096x768, .f32⟩
  | 50 => ⟨S4096x768, .f32⟩
  | 51 => ⟨S1x768, .f32⟩
  | 52 => ⟨S4096x768, .f32⟩
  | 53 => ⟨S4096x768, .f32⟩
  | 54 => ⟨S4096x8, .f32⟩
  | 55 => ⟨S1x8, .f32⟩
  | 56 => ⟨S4096x8, .f32⟩
  | 57 => ⟨S4096x8, .f32⟩
  | 58 => ⟨S_, .f32⟩
  | 59 => ⟨S4096, .f32⟩
  | 60 => ⟨S_, .f32⟩
  | 61 => ⟨S4096, .f32⟩
  | 62 => ⟨S4096, .f32⟩
  | 63 => ⟨S4096x1, .f32⟩
  | 64 => ⟨S4096x8, .f32⟩
  | 65 => ⟨S4096x8, .f32⟩
  | 66 => ⟨S4096x8, .f32⟩
  | 67 => ⟨S_, .f32⟩
  | 68 => ⟨S4096, .f32⟩
  | 69 => ⟨S4096x1, .f32⟩
  | 70 => ⟨S4096x8, .f32⟩
  | 71 => ⟨S4096x8, .f32⟩
  | 72 => ⟨S4096x2, .f32⟩
  | 73 => ⟨S4096x2, .i32⟩
  | 74 => ⟨S_, .f32⟩
  | 75 => ⟨S4096, .f32⟩
  | 76 => ⟨S4096x1, .f32⟩
  | 77 => ⟨S4096x2, .f32⟩
  | 78 => ⟨S4096x2, .f32⟩
  | 79 => ⟨S4096x8x512, .f32⟩
  | 80 => ⟨S1x8x512, .f32⟩
  | 81 => ⟨S4096x8x512, .f32⟩
  | 82 => ⟨S4096x8x512, .f32⟩
  | 83 => ⟨S_, .f32⟩
  | 84 => ⟨S4096x8x512, .f32⟩
  | 85 => ⟨S4096x8x512, .f32⟩
  | 86 => ⟨S_, .f32⟩
  | 87 => ⟨S_, .f32⟩
  | 88 => ⟨S4096x8x512, .f32⟩
  | 89 => ⟨S4096x8x512, .f32⟩
  | 90 => ⟨S4096x8x512, .f32⟩
  | 91 => ⟨S_, .f32⟩
  | 92 => ⟨S4096x8x512, .f32⟩
  | 93 => ⟨S4096x8x512, .f32⟩
  | 94 => ⟨S4096x8x512, .f32⟩
  | 95 => ⟨S8x768x4096, .f32⟩
  | 96 => ⟨S4096x8x768, .f32⟩
  | 97 => ⟨S1x8x768, .f32⟩
  | 98 => ⟨S4096x8x768, .f32⟩
  | 99 => ⟨S4096x8x768, .f32⟩
  | 100 => ⟨S4096x2x1, .i32⟩
  | 101 => ⟨S_, .i32⟩
  | 102 => ⟨S4096x2x1, .i32⟩
  | 103 => ⟨S4096x2x1, .i1⟩
  | 104 => ⟨S_, .i32⟩
  | 105 => ⟨S4096x2x1, .i32⟩
  | 106 => ⟨S4096x2x1, .i32⟩
  | 107 => ⟨S4096x2x1, .i32⟩
  | 108 => ⟨S1, .i32⟩
  | 109 => ⟨S_, .i32⟩
  | 110 => ⟨S4096x2x1, .i32⟩
  | 111 => ⟨S4096x2x1, .i1⟩
  | 112 => ⟨S1x1x1, .i32⟩
  | 113 => ⟨S4096x2x1, .i32⟩
  | 114 => ⟨S4096x2x1, .i1⟩
  | 115 => ⟨S4096x2x1, .i1⟩
  | 116 => ⟨S_, .i1⟩
  | 117 => ⟨S4096x2, .i1⟩
  | 118 => ⟨S4096x2x768, .f32⟩
  | 119 => ⟨S4096x2x768, .i1⟩
  | 120 => ⟨S_, .f32⟩
  | 121 => ⟨S4096x2x768, .f32⟩
  | 122 => ⟨S4096x2x768, .f32⟩
  | 123 => ⟨S4096x2x1, .f32⟩
  | 124 => ⟨S4096x2x768, .f32⟩
  | 125 => ⟨S4096x2x768, .f32⟩
  | 126 => ⟨S_, .f32⟩
  | 127 => ⟨S4096x768, .f32⟩
  | _ => ⟨S2x2048x768, .f32⟩

abbrev hbmTy0_1 (i : Nat) : BufTy := match i % 128 with
  | 0 => ⟨S2x2048x768, .f32⟩
  | _ => ⟨S2x2048x768, .f32⟩

abbrev hbmTy (i : Nat) : BufTy := match i / 128 with
  | 0 => hbmTy0_0 i
  | 1 => hbmTy0_1 i
  | _ => ⟨S2x2048x768, .f32⟩

abbrev bufTy : (tb : Table) → Fin (tcTables nBuf tb) → BufTy
  | .hbm, ⟨i, _⟩ => hbmTy i
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_cst_1 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_2 : Ref sig .tc := ⟨.hbm, 58, rfl⟩
abbrev main_v23 : Ref sig .tc := ⟨.hbm, 59, rfl⟩
abbrev main_cst_3 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_4 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_values : Ref sig .tc := ⟨.hbm, 72, rfl⟩
abbrev main_indices : Ref sig .tc := ⟨.hbm, 73, rfl⟩
abbrev main_cst_5 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_6 : Ref sig .tc := ⟨.hbm, 83, rfl⟩
abbrev main_v42 : Ref sig .tc := ⟨.hbm, 84, rfl⟩
abbrev main_v43 : Ref sig .tc := ⟨.hbm, 85, rfl⟩
abbrev main_cst_7 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_cst_8 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_call1_c : Ref sig .tc := ⟨.hbm, 101, rfl⟩
abbrev main_call1_v0 : Ref sig .tc := ⟨.hbm, 102, rfl⟩
abbrev main_call1_v1 : Ref sig .tc := ⟨.hbm, 103, rfl⟩
abbrev main_call1_c_0 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_c_1 : Ref sig .tc := ⟨.hbm, 108, rfl⟩
abbrev main_call1_c_2 : Ref sig .tc := ⟨.hbm, 109, rfl⟩
abbrev main_call1_v5 : Ref sig .tc := ⟨.hbm, 110, rfl⟩
abbrev main_call1_v6 : Ref sig .tc := ⟨.hbm, 111, rfl⟩
abbrev main_call1_v7 : Ref sig .tc := ⟨.hbm, 112, rfl⟩
abbrev main_call1_v8 : Ref sig .tc := ⟨.hbm, 113, rfl⟩
abbrev main_call1_v9 : Ref sig .tc := ⟨.hbm, 114, rfl⟩
abbrev main_call1_v10 : Ref sig .tc := ⟨.hbm, 115, rfl⟩
abbrev main_call1_c_3 : Ref sig .tc := ⟨.hbm, 116, rfl⟩
abbrev main_call1_v11 : Ref sig .tc := ⟨.hbm, 117, rfl⟩
abbrev main_call1_v12 : Ref sig .tc := ⟨.hbm, 118, rfl⟩
abbrev main_call1_v13 : Ref sig .tc := ⟨.hbm, 119, rfl⟩
abbrev main_call1_cst : Ref sig .tc := ⟨.hbm, 120, rfl⟩
abbrev main_call1_v14 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_cst_9 : Ref sig .tc := ⟨.hbm, 126, rfl⟩
abbrev main_v61 : Ref sig .tc := ⟨.hbm, 127, rfl⟩
abbrev main_v62 : Ref sig .tc := ⟨.hbm, 128, rfl⟩

abbrev nD : Nat := 1
abbrev τ : Topo := Topo.v7x

variable {F : FTy → Type} [FloatOps F]
-- ==== Proof.Row.lean ====
/-
  One token's arithmetic, in extended reals and without any program: the layer norm, the router's softmax, one expert.
  Both programs compute these row functions; the two spellings of the layer norm and of the gelu meet here.
-/
module

public import Idealize.ShloMosaic.Lib.Pointwise

@[expose] public section

noncomputable section

open Idealize.ShloMosaic

namespace Moe

/-- The row length 768, as the programs' literal. -/
abbrev width : EReal := Ideal.ofBits .f32 1145044992#32

/-- The layer norm's epsilon, as the programs' literal. -/
abbrev eps : EReal := Ideal.ofBits .f32 925353388#32

/-- The gelu's one half, as the programs' literal. -/
abbrev half : EReal := Ideal.ofBits .f32 1056964608#32

/-- The value a maximum starts from, as the programs' literal. -/
abbrev low : EReal := Ideal.ofBits .f32 4286578688#32

/-- The value the router writes over the winner before it looks for the second, as the kernel's literal. -/
abbrev minusOne : EReal := Ideal.ofBits .f32 3212836864#32

/-! ### The literals -/

/-- The row length's literal is 768. -/
theorem width_eq : width = ((768 : ℝ) : EReal) := by
  simp [width, Ideal.ofBits, Ideal.ieee, -EReal.coe_mul]; norm_num

/-- The epsilon is a positive real. -/
theorem eps_pos : ∃ r : ℝ, 0 < r ∧ eps = (r : EReal) := by
  refine ⟨_, ?_, by simp [eps, Ideal.ofBits, Ideal.ieee, -EReal.coe_mul]; rfl⟩
  norm_num

/-- A maximum starts from minus infinity. -/
theorem low_eq : low = ⊥ := by
  simp [low, Ideal.ofBits, Ideal.ieee]

/-- The mask's literal is minus one. -/
theorem minusOne_eq : minusOne = ((-1 : ℝ) : EReal) := by
  simp [minusOne, Ideal.ofBits, Ideal.ieee, -EReal.coe_mul]; norm_num

/-- The literal 2 is two. -/
theorem two_eq : Ideal.ofBits .f32 1073741824#32 = ((2 : ℝ) : EReal) := by
  simp [Ideal.ofBits, Ideal.ieee, -EReal.coe_mul]; norm_num

/-! ### The row functions -/

/-- The mean of a row. -/
def mean (x : Fin 768 → EReal) : EReal := Ideal.div (∑ k, x k) width

/-- The variance of a row. -/
def spread (x : Fin 768 → EReal) : EReal := Ideal.div (∑ k, (x k - mean x) * (x k - mean x)) width

/-- The layer norm of a row, the scale multiplied to the reciprocal root first. -/
def normed (x g b : Fin 768 → EReal) (k : Fin 768) : EReal :=
  (x k - mean x) * (Ideal.rsqrt (spread x + eps) * g k) + b k

/-- The router's logit of expert `e`. -/
def logit (x g b : Fin 768 → EReal) (wg : Fin 768 → Fin 8 → EReal) (bg : Fin 8 → EReal) (e : Fin 8) : EReal :=
  ∑ k, normed x g b k * wg k e + bg e

/-- The greatest of eight values. -/
def top (f : Fin 8 → EReal) : EReal := Finset.fold max low f Finset.univ

/-- The softmax of eight logits. -/
def softmax (l : Fin 8 → EReal) (e : Fin 8) : EReal :=
  Ideal.div (Ideal.exp (l e - top l)) (∑ x, Ideal.exp (l x - top l))

/-- The exact gelu, the division by the root of two written as a product. -/
def gelu (h : EReal) : EReal := half * h * (1 + Ideal.erf (h * (((Real.sqrt 2)⁻¹ : ℝ) : EReal)))

/-- One hidden value of one expert, before the gelu. -/
def hidden (x : Fin 768 → EReal) (w1 : Fin 768 → EReal) (b1 : EReal) : EReal := ∑ k, x k * w1 k + b1

/-- One output of one expert, from its hidden row. -/
def expertOut (h : Fin 512 → EReal) (w2 : Fin 512 → EReal) (b2 : EReal) : EReal := ∑ f, gelu (h f) * w2 f + b2

/-! ### The two spellings meet -/

/-- A square is not negative. -/
theorem mul_self_nonneg (a : EReal) : 0 ≤ a * a := by
  induction a with
  | bot => simp
  | top => simp
  | coe r => rw [← EReal.coe_mul]; exact_mod_cast _root_.mul_self_nonneg r

/-- The variance plus the epsilon is positive. -/
theorem spread_eps_pos (x : Fin 768 → EReal) : 0 < spread x + eps := by
  obtain ⟨r, hr, he⟩ := eps_pos
  have h : 0 ≤ spread x := by
    rw [spread, width_eq, Ideal.div_coe (by norm_num)]
    refine EReal.mul_nonneg (Finset.sum_nonneg fun k _ => mul_self_nonneg _) ?_
    exact_mod_cast (by norm_num : (0 : ℝ) ≤ 1 / 768)
  rw [he]
  calc (0 : EReal) < (r : EReal) := by exact_mod_cast hr
    _ = 0 + (r : EReal) := (zero_add _).symm
    _ ≤ spread x + (r : EReal) := by gcongr

/-- Dividing by the root of a positive `c` and then scaling is multiplying by the scaled reciprocal root. -/
theorem div_sqrt_mul {c : EReal} (hc : 0 < c) (a g : EReal) :
    Ideal.div a (Ideal.sqrt c) * g = a * (Ideal.rsqrt c * g) := by
  induction c with
  | bot => simp at hc
  | top => simp [Ideal.div]
  | coe r =>
    have hr : 0 < r := by exact_mod_cast hc
    have hs : Real.sqrt r ≠ 0 := (Real.sqrt_pos.2 hr).ne'
    rw [Ideal.sqrt_coe, Ideal.rsqrt_coe, if_neg hr.not_gt, if_neg hr.not_gt, if_neg hr.ne', Ideal.div_coe hs, one_div,
      mul_assoc]

/-- The layer norm with the division written out. -/
theorem normed_eq (x g b : Fin 768 → EReal) (k : Fin 768) :
    Ideal.div (x k - mean x) (Ideal.sqrt (spread x + eps)) * g k + b k = normed x g b k := by
  rw [normed, div_sqrt_mul (spread_eps_pos x)]

/-- The exact gelu with the division by the root of two. -/
theorem gelu_eq (h : EReal) :
    half * h * (1 + Ideal.erf (Ideal.div h (Ideal.sqrt (Ideal.ofBits .f32 1073741824#32)))) = gelu h := by
  have hs : Real.sqrt 2 ≠ 0 := by positivity
  rw [two_eq, Ideal.sqrt_coe, if_neg (by norm_num), Ideal.div_coe hs, one_div, gelu]

/-! ### The greatest of eight, and what a softmax can be -/

/-- The greatest value is above every value. -/
theorem le_top (f : Fin 8 → EReal) (e : Fin 8) : f e ≤ top f :=
  Finset.le_fold_max _ |>.2 (Or.inr ⟨e, Finset.mem_univ _, le_rfl⟩)

/-- A value that is above every value is the greatest. -/
theorem top_eq {f : Fin 8 → EReal} {i : Fin 8} (h : ∀ j, f j ≤ f i) : top f = f i :=
  le_antisymm ((Finset.fold_max_le _).2 ⟨by rw [low_eq]; exact bot_le, fun j _ => h j⟩) (le_top f i)

/-- In a nonempty set of experts there is a first greatest one. -/
theorem exists_first (f : Fin 8 → EReal) (S : Finset (Fin 8)) (hS : S.Nonempty) :
    ∃ i ∈ S, (∀ j ∈ S, f j ≤ f i) ∧ ∀ j ∈ S, j < i → f j < f i := by
  obtain ⟨m, hm, hmax⟩ := Finset.exists_max_image S f hS
  obtain ⟨i, hi, hmin⟩ := Finset.exists_min_image (S.filter fun j => f j = f m) id ⟨m, by simp [hm]⟩
  obtain ⟨hiS, him⟩ := Finset.mem_filter.1 hi
  refine ⟨i, hiS, fun j hj => him ▸ hmax j hj, fun j hj hlt => ?_⟩
  refine lt_of_le_of_ne (him ▸ hmax j hj) fun he => ?_
  exact absurd (hmin j (Finset.mem_filter.2 ⟨hj, he.trans him⟩)) (not_le.2 hlt)

/-- The sum of eight reals, as a real. -/
theorem sum_coe (p : Fin 8 → ℝ) : ∑ x, ((p x : ℝ) : EReal) = ((∑ x, p x : ℝ) : EReal) := by
  simp [Fin.sum_univ_eight]

/-- A softmax is minus infinity everywhere (when the greatest logit is infinite), or nowhere negative and somewhere
    positive. -/
theorem softmax_cases (l : Fin 8 → EReal) :
    (∀ e, softmax l e = ⊥) ∨ ((∀ e, 0 ≤ softmax l e) ∧ ∃ e, 0 < softmax l e) := by
  obtain ⟨i, -, hi, -⟩ := exists_first l Finset.univ Finset.univ_nonempty
  have ht : top l = l i := top_eq fun j => hi j (Finset.mem_univ _)
  have hle : ∀ e, l e ≤ l i := fun e => hi e (Finset.mem_univ _)
  by_cases hinf : l i = ⊤ ∨ l i = ⊥
  · left
    have hz : ∀ e, Ideal.exp (l e - top l) = 0 := by
      intro e
      have : l e - top l = ⊥ := by
        rw [ht]
        rcases hinf with h | h
        · rw [h, sub_eq_add_neg, EReal.neg_top, EReal.add_bot]
        · have hb := hle e
          rw [h] at hb
          rw [le_bot_iff.1 hb, h, sub_eq_add_neg, EReal.bot_add]
      rw [this, Ideal.exp_bot]
    intro e
    simp [softmax, hz, Ideal.div]
  · right
    obtain ⟨h1, h2⟩ := not_or.1 hinf
    obtain ⟨M, hM⟩ : ∃ M : ℝ, l i = (M : EReal) := ⟨(l i).toReal, (EReal.coe_toReal h1 h2).symm⟩
    have hp : ∀ e, ∃ p : ℝ, 0 ≤ p ∧ Ideal.exp (l e - top l) = (p : EReal) := by
      intro e
      rw [ht, hM]
      have := hM ▸ hle e
      generalize l e = y at this
      induction y with
      | bot => exact ⟨0, le_rfl, by simp [sub_eq_add_neg]⟩
      | top => simp at this
      | coe r => exact ⟨Real.exp (r - M), (Real.exp_pos _).le, by rw [← EReal.coe_sub, Ideal.exp_coe]⟩
    choose p hp0 hpe using hp
    have hpi : 0 < p i := by
      have h : ((p i : ℝ) : EReal) = ((1 : ℝ) : EReal) := by
        rw [← hpe i, ht, hM, ← EReal.coe_sub, Ideal.exp_coe, sub_self, Real.exp_zero]
      rw [EReal.coe_eq_coe_iff.1 h]; norm_num
    have hS : 0 < ∑ x, p x := Finset.sum_pos' (fun e _ => hp0 e) ⟨i, Finset.mem_univ _, hpi⟩
    have hv : ∀ e, softmax l e = ((p e * (1 / ∑ x, p x) : ℝ) : EReal) := by
      intro e
      rw [softmax, Finset.sum_congr rfl fun x _ => hpe x, sum_coe, hpe e, Ideal.div_coe hS.ne', EReal.coe_mul]
    refine ⟨fun e => ?_, i, ?_⟩
    · rw [hv e]; exact_mod_cast mul_nonneg (hp0 e) (by positivity)
    · rw [hv i]; exact_mod_cast mul_pos hpi (by positivity)

end Moe
-- ==== Proof.Routing.lean ====
/-
  The router, one token at a time. The kernel takes the greatest gate weight, writes minus one over its first occurrence,
  takes the greatest again, and weighs every expert (six of the eight by zero). The reference sorts the gate weights from
  the greatest down, keeps the first two and weighs only those. The two weighted sums are equal for every softmax.
-/
module

public import proofs.«01_k».proof.Proof.Row
public import Idealize.ShloMosaic.Lib.SortPrefix

@[expose] public section

noncomputable section

open Idealize.ShloMosaic

namespace Moe

/-! ### The kernel's choice -/

/-- The number of the first expert with the greatest value, as the kernel finds it: the least of the numbers of all the
    experts that have it. -/
def firstTop (f : Fin 8 → EReal) : BitVec 32 :=
  Finset.fold IntOp.minsi (2147483647#32) (fun x => if f x = top f then BitVec.ofNat 32 ↑x else 8#32) Finset.univ

/-- The values with minus one written over the first greatest. -/
def masked (f : Fin 8 → EReal) (x : Fin 8) : EReal :=
  Scalar.select (IntOp.cmpi CmpIPredicate.eq (BitVec.ofNat 32 ↑x) (firstTop f)) minusOne (f x)

/-- The weight the kernel gives expert `e`. -/
def scale (f : Fin 8 → EReal) (e : Fin 8) : EReal :=
  Ideal.div
    (Scalar.select (IntOp.cmpi CmpIPredicate.eq (BitVec.ofNat 32 ↑e) (firstTop f)) (top f) 0 +
      Scalar.select (IntOp.cmpi CmpIPredicate.eq (BitVec.ofNat 32 ↑e) (firstTop (masked f))) (top (masked f)) 0)
    (top f + top (masked f))

/-- The least number among the marked experts is the first marked one's. -/
theorem least_marked : ∀ b0 b1 b2 b3 b4 b5 b6 b7 : Bool, ∀ i : Fin 8,
    (![b0, b1, b2, b3, b4, b5, b6, b7] i = true ∧ ∀ j < i, ![b0, b1, b2, b3, b4, b5, b6, b7] j = false) →
    Finset.fold IntOp.minsi (2147483647#32)
      (fun x : Fin 8 => if ![b0, b1, b2, b3, b4, b5, b6, b7] x = true then BitVec.ofNat 32 ↑x else 8#32) Finset.univ
      = BitVec.ofNat 32 ↑i := by
  decide +kernel

/-- The kernel's number is the first greatest expert's. -/
theorem firstTop_eq {f : Fin 8 → EReal} {i : Fin 8} (h : ∀ j, f j ≤ f i) (hlt : ∀ j < i, f j < f i) :
    firstTop f = BitVec.ofNat 32 ↑i := by
  classical
  have hb : ∀ x : Fin 8, ![decide (f 0 = top f), decide (f 1 = top f), decide (f 2 = top f), decide (f 3 = top f),
      decide (f 4 = top f), decide (f 5 = top f), decide (f 6 = top f), decide (f 7 = top f)] x = decide (f x = top f) := by
    intro x; fin_cases x <;> rfl
  have := least_marked _ _ _ _ _ _ _ _ i ⟨(hb i).trans (decide_eq_true (top_eq h).symm), fun j hj =>
    (hb j).trans (decide_eq_false (by rw [top_eq h]; exact (hlt j hj).ne))⟩
  rw [← this, firstTop]
  refine Finset.fold_congr fun x _ => ?_
  rw [hb x]
  simp only [decide_eq_true_eq]

/-- Comparing two experts' numbers is comparing the experts. -/
theorem number_eq (x i : Fin 8) : IntOp.cmpi CmpIPredicate.eq (BitVec.ofNat 32 ↑x) (BitVec.ofNat 32 ↑i) =
    if x = i then 1#1 else 0#1 := by
  revert x i; decide

/-- A choice by a comparison of two experts' numbers. -/
theorem select_number (x i : Fin 8) (a b : EReal) :
    Scalar.select (IntOp.cmpi CmpIPredicate.eq (BitVec.ofNat 32 ↑x) (BitVec.ofNat 32 ↑i)) a b = if x = i then a else b := by
  rw [number_eq]
  by_cases h : x = i
  · rw [if_pos h, if_pos h]; rfl
  · rw [if_neg h, if_neg h]; rfl

/-! ### The reference's choice -/

/-- The order of the reference's sort: an expert with a greater value comes first. -/
abbrev before (f : Fin 8 → EReal) (k k' : Fin 8) : Bool :=
  FloatOps.cmpfTotal (F := Ideal) (φ := .f32) .gt (f k) (f k') == 1#1

/-- The expert in place `k` after the reference's sort. -/
def place (f : Fin 8 → EReal) (k : Fin 8) : Fin 8 := sortedFrom (before f) k

/-- The sort's order is the order of the values. -/
theorem before_eq (f : Fin 8 → EReal) (k k' : Fin 8) : before f k k' = decide (f k' < f k) := by
  classical
  show (Ideal.cmp .ogt (f k) (f k') == 1#1) = _
  by_cases h : f k' < f k <;> simp [Ideal.cmp, h]

/-- A stable sort of a list in order of position asks its comparator only about a later element against an earlier one. -/
theorem stableSort_congr_later {n : Nat} (R R' : Fin n → Fin n → Bool) (l : List (Fin n)) (hl : l.Pairwise (· < ·))
    (h : ∀ a b, a < b → R b a = R' b a) : stableSort R l = stableSort R' l := by
  induction l with
  | nil => rfl
  | cons a l ih =>
    obtain ⟨ha, hl'⟩ := List.pairwise_cons.1 hl
    unfold stableSort
    rw [ih hl']
    exact insertBefore_congr R R' a _ fun b hb => h a b (ha b ((perm_stableSort R' l).mem_iff.1 hb))

/-- The stable sort by the values is the sort by the values and then the position. -/
theorem place_eq (f : Fin 8 → EReal) (k : Fin 8) :
    place f k = sortedFrom (fun a b : Fin 8 => decide (f b < f a) || (decide (f a = f b) && decide (a < b))) k := by
  have : sortPositions 8 (before f) =
      sortPositions 8 (fun a b : Fin 8 => decide (f b < f a) || (decide (f a = f b) && decide (a < b))) := by
    refine stableSort_congr_later _ _ _ (List.pairwise_lt_finRange 8) fun a b hab => ?_
    rw [before_eq, decide_eq_false (not_lt.2 hab.le), Bool.and_false, Bool.or_false]
  unfold place sortedFrom
  rw [List.get_of_eq this]
  rfl

/-- The first greatest expert and the first greatest of the others are the sort's first two. -/
theorem place_top {f : Fin 8 → EReal} {i j : Fin 8} (hne : j ≠ i) (hi : ∀ p, f p ≤ f i) (hi' : ∀ p < i, f p < f i)
    (hj : ∀ p, p ≠ i → f p ≤ f j) (hj' : ∀ p, p ≠ i → p < j → f p < f j) : place f 0 = i ∧ place f 1 = j := by
  have hB := StrictTotalBefore.of_key_then_position (fun x y : EReal => decide (y < x)) f (by simp)
    (fun a b c h1 h2 => by simp only [decide_eq_true_eq] at *; exact h2.trans h1)
    (fun a b => by
      simp only [decide_eq_true_eq]
      rcases lt_trichotomy a b with h | h | h
      · exact Or.inr (Or.inr h)
      · exact Or.inr (Or.inl h)
      · exact Or.inl h)
  have hno : ∀ p q : Fin 8, f p ≤ f q → (p < q → f p < f q) →
      (decide (f q < f p) || (decide (f p = f q) && decide (p < q))) = false := by
    intro p q h h'
    rw [decide_eq_false (not_lt.2 h), Bool.false_or]
    by_cases hpq : p < q
    · rw [decide_eq_false (h' hpq).ne, Bool.false_and]
    · rw [decide_eq_false hpq, Bool.and_false]
  have key := hB.sortedFrom_eq_of_prefix (k := 2) (by decide) ![i, j]
    (by
      intro a b hab
      fin_cases a <;> fin_cases b <;> first | rfl | exact absurd hab hne | exact absurd hab.symm hne)
    (by
      intro a b hab
      fin_cases a <;> fin_cases b <;> first | exact absurd hab (by decide) | exact hno j i (hi j) (hi' j))
    (by
      intro a p hp
      fin_cases a
      · exact hno p i (hi p) (hi' p)
      · exact hno p j (hj p (hp 0).symm) (hj' p (hp 0).symm))
  exact ⟨(place_eq f 0).trans (key 0), (place_eq f 1).trans (key 1)⟩

/-! ### The two weighted sums -/

/-- The reference's weighted sum over the sort's first two experts. -/
def chosen (f o : Fin 8 → EReal) : EReal :=
  ∑ k : Fin 2, Ideal.div (f (place f (k.castLE (by decide)))) (∑ q : Fin 2, f (place f (q.castLE (by decide)))) *
    o (place f (k.castLE (by decide)))

/-- Minus infinity over anything that has minus infinity as a summand is zero. -/
theorem div_bot (x : EReal) : Ideal.div x ⊥ = 0 := by
  simp [Ideal.div]

/-- Zero over a nonzero value is zero. -/
theorem zero_div {y : EReal} (h : y ≠ 0) : Ideal.div 0 y = 0 := by
  rw [Ideal.div, if_neg h, zero_mul]

/-- Where every gate weight is minus infinity both sums are zero. -/
theorem routing_bot {f : Fin 8 → EReal} (h : ∀ e, f e = ⊥) (o : Fin 8 → EReal) :
    ∑ e, scale f e * o e = chosen f o := by
  have ht : top f = ⊥ := (top_eq (i := 0) fun j => by rw [h j]; exact bot_le).trans (h 0)
  have hs : ∀ e, scale f e = 0 := fun e => by rw [scale, ht, EReal.bot_add, div_bot]
  simp only [chosen, hs, zero_mul, Finset.sum_const_zero, Fin.sum_univ_two, h, EReal.bot_add, div_bot, add_zero]

/-- Where the gate weights are not negative and one is positive, both sums weigh the same two experts alike. -/
theorem routing_pos {f : Fin 8 → EReal} (h0 : ∀ e, 0 ≤ f e) (hp : ∃ e, 0 < f e) (o : Fin 8 → EReal) :
    ∑ e, scale f e * o e = chosen f o := by
  obtain ⟨i, -, hi, hi'⟩ := exists_first f Finset.univ Finset.univ_nonempty
  obtain ⟨j, hjm, hj, hj'⟩ := exists_first f (Finset.univ.erase i) ⟨i + 1, by simp⟩
  have hne : j ≠ i := Finset.ne_of_mem_erase hjm
  replace hi : ∀ p, f p ≤ f i := fun p => hi p (Finset.mem_univ _)
  replace hi' : ∀ p < i, f p < f i := fun p => hi' p (Finset.mem_univ _)
  replace hj : ∀ p, p ≠ i → f p ≤ f j := fun p hpi => hj p (Finset.mem_erase.2 ⟨hpi, Finset.mem_univ _⟩)
  replace hj' : ∀ p, p ≠ i → p < j → f p < f j := fun p hpi => hj' p (Finset.mem_erase.2 ⟨hpi, Finset.mem_univ _⟩)
  obtain ⟨hp0, hp1⟩ := place_top hne hi hi' hj hj'
  have hfi : 0 < f i := hp.elim fun e he => he.trans_le (hi e)
  have hsum : f i + f j ≠ 0 := by
    have : f i + 0 ≤ f i + f j := by gcongr; exact h0 j
    rw [add_zero] at this
    exact (hfi.trans_le this).ne'
  have hmask : masked f = fun x => if x = i then minusOne else f x := by
    funext x; rw [masked, firstTop_eq hi hi', select_number]
  have hm1 : minusOne < 0 := by rw [minusOne_eq]; exact_mod_cast (by norm_num : (-1 : ℝ) < 0)
  have hgj : masked f j = f j := by rw [hmask]; exact if_neg hne
  have hg : ∀ p, masked f p ≤ masked f j := by
    intro p; rw [hgj, hmask]
    by_cases hpi : p = i
    · simp only [if_pos hpi]; exact hm1.le.trans (h0 j)
    · simp only [if_neg hpi]; exact hj p hpi
  have hg' : ∀ p < j, masked f p < masked f j := by
    intro p hpj; rw [hgj, hmask]
    by_cases hpi : p = i
    · simp only [if_pos hpi]; exact hm1.trans_le (h0 j)
    · simp only [if_neg hpi]; exact hj' p hpi hpj
  have hs : ∀ e, scale f e =
      Ideal.div ((if e = i then f i else 0) + (if e = j then f j else 0)) (f i + f j) := by
    intro e
    rw [scale, firstTop_eq hi hi', firstTop_eq hg hg', select_number, select_number, top_eq hi, top_eq hg, hgj]
  have hother : ∀ e, e ≠ i ∧ e ≠ j → scale f e * o e = 0 := by
    rintro e ⟨h1, h2⟩
    rw [hs, if_neg h1, if_neg h2, add_zero, zero_div hsum, zero_mul]
  rw [Finset.sum_eq_add_of_mem i j (Finset.mem_univ _) (Finset.mem_univ _) hne.symm fun e _ he => hother e he,
    hs i, hs j, if_pos rfl, if_neg hne.symm, if_neg hne, if_pos rfl, add_zero, zero_add, chosen]
  have c0 : ((0 : Fin 2).castLE (by decide) : Fin 8) = 0 := rfl
  have c1 : ((1 : Fin 2).castLE (by decide) : Fin 8) = 1 := rfl
  simp only [Fin.sum_univ_two, c0, c1, hp0, hp1]

/-- For every softmax, the kernel's weighted sum over all eight experts is the reference's over its two. -/
theorem routing (l o : Fin 8 → EReal) : ∑ e, scale (softmax l) e * o e = chosen (softmax l) o := by
  rcases softmax_cases l with h | ⟨h0, hp⟩
  · exact routing_bot h o
  · exact routing_pos h0 hp o

end Moe
-- ==== Proof.KernelBlock.lean ====
/-
  What one block of the kernel computes, entry by entry: the row functions of Row.lean and Routing.lean on the block's row.
-/
module

public import proofs.«01_k».proof.Proof.Gen.KernelIdeal.Frame
public import proofs.«01_k».proof.Proof.Routing
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Block

open Cert.KernelIdeal Cert.KernelIdeal.Gen

/-- The kernel's named constant is one over the root of two. -/
theorem named_eq : Named.named (F := Ideal) Cert.KernelIdeal.κ "inv_sqrt2" (φ := .f32) 0x3F3504F3#32 =
    (((Real.sqrt 2)⁻¹ : ℝ) : EReal) := IdealRules.named_const.ideal_named_scalar _ _ _ _ rfl

/-- The gate weights of one row of a block. -/
def gateRow (x : Fin 768 → EReal) (x1 x2 : FVec Ideal S1x768 .f32) (x3 : FVec Ideal S768x8 .f32)
    (x4 : FVec Ideal S1x8 .f32) : Fin 8 → EReal :=
  Moe.softmax (Moe.logit x (fun k => x1 (ix2 0 k)) (fun k => x2 (ix2 0 k)) (fun k e => x3 (ix2 k e)) (fun e => x4 (ix2 0 e)))

/-- The gate weights the kernel computes for a row. -/
theorem pay3_at (x0 : FVec Ideal S512x768 .f32) (x1 x2 : FVec Ideal S1x768 .f32) (x3 : FVec Ideal S768x8 .f32)
    (x4 : FVec Ideal S1x8 .f32) (r : Fin 512) (e : Fin 8) :
    k0_pay3 (F := Ideal) x0 x1 x2 x3 x4 (ix2 r e) = gateRow (fun k => x0 (ix2 r k)) x1 x2 x3 x4 e := by
  pointwise [k0_pay3, k0_pay2]
  rfl

/-- The weight the kernel gives an expert, from a row of gate weights. -/
theorem pay4_at (gw : FVec Ideal S512x8 .f32) (r : Fin 512) (e : Fin 8) :
    k0_pay4 (F := Ideal) gw (ix2 r e) = Moe.scale (fun x => gw (ix2 r x)) e := by
  pointwise [k0_pay4]
  rfl

section

variable (x0 : Vec Ideal S512x768 .f32) (x1 x2 : Vec Ideal S1x768 .f32) (x3 : Vec Ideal S768x8 .f32)
  (x4 : Vec Ideal S1x8 .f32) (x5 : Vec Ideal S8x768x512 .f32) (x6 : Vec Ideal S8x512 .f32)
  (x7 : Vec Ideal S8x512x768 .f32) (x8 : Vec Ideal S8x768 .f32)

/-- The block of tokens as the body holds it. -/
theorem pay17_at (r : Fin 512) (k : Fin 768) :
    k0_pay17 (F := Ideal) x0 x1 x2 x3 x4 x5 x6 x7 x8 (ix2 r k) = x0 (ix2 r k) := by
  pointwise [k0_pay17, k0_pay2]

/-- The gate weights as the body holds them. -/
theorem pay18_at (r : Fin 512) (e : Fin 8) :
    k0_pay18 (F := Ideal) x0 x1 x2 x3 x4 x5 x6 x7 x8 (ix2 r e) = gateRow (fun k => x0 (ix2 r k)) x1 x2 x3 x4 e := by
  pointwise [k0_pay18, k0_pay3, k0_pay2]
  rfl

/-- The experts' weights as the body holds them. -/
theorem pay19_at (r : Fin 512) (e : Fin 8) :
    k0_pay19 (F := Ideal) x0 x1 x2 x3 x4 x5 x6 x7 x8 (ix2 r e) =
      Moe.scale (gateRow (fun k => x0 (ix2 r k)) x1 x2 x3 x4) e := by
  rw [k0_pay19, pay4_at, funext fun e => pay18_at x0 x1 x2 x3 x4 x5 x6 x7 x8 r e]

/-- The gate weights a block leaves. -/
theorem out10_at (r : Fin 512) (e : Fin 8) :
    out0_10 (F := Ideal) x0 x1 x2 x3 x4 x5 x6 x7 x8 (ix2 r e) = gateRow (fun k => x0 (ix2 r k)) x1 x2 x3 x4 e := by
  frame_out
  exact pay18_at x0 x1 x2 x3 x4 x5 x6 x7 x8 r e

/-- The output a block leaves: the eight experts, each by its weight. -/
theorem out9_at (r : Fin 512) (d : Fin 768) :
    out0_9 (F := Ideal) x0 x1 x2 x3 x4 x5 x6 x7 x8 (ix2 r d) =
      ∑ e, Moe.scale (gateRow (fun k => x0 (ix2 r k)) x1 x2 x3 x4) e *
        Moe.expertOut (fun f => Moe.hidden (fun k => x0 (ix2 r k)) (fun k => x5 (ix3 e k f)) (x6 (ix2 e f)))
          (fun f => x7 (ix3 e f d)) (x8 (ix2 e d)) := by
  frame_out
  pointwise [k0_pay1, k0_pay15, k0_pay13, k0_pay10, k0_pay9, k0_pay7, k0_pay5, k0_pay6, k0_pay8, k0_pay11, k0_pay12,
    k0_pay14, k0_pay16]
  simp only [named_eq, pay17_at, pay19_at, Fin.sum_univ_eight]
  rfl

end

end Cert.KernelIdeal.Block
-- ==== Proof.Layer.lean ====
/-
  The whole layer over the argument arrays, token by token: the gate weights and the output both programs leave.
-/
module

public import proofs.«01_k».proof.Proof.Routing

@[expose] public section

noncomputable section

open Idealize.ShloMosaic

namespace Moe

/-- The row of token `t`, the tokens of the two batches counted through. -/
def tokenRow (X : FVec Ideal ⟨3, ![2, 2048, 768]⟩ .f32) (t : Fin 4096) (k : Fin 768) : EReal :=
  X (ix3 (⟨t.val / 2048, by omega⟩ : Fin 2) (⟨t.val % 2048, by omega⟩ : Fin 2048) k)

/-- The gate weights of token `t`. -/
def gates (X : FVec Ideal ⟨3, ![2, 2048, 768]⟩ .f32) (G B : FVec Ideal ⟨1, ![768]⟩ .f32)
    (Wg : FVec Ideal ⟨2, ![768, 8]⟩ .f32) (bg : FVec Ideal ⟨1, ![8]⟩ .f32) (t : Fin 4096) : Fin 8 → EReal :=
  softmax (logit (tokenRow X t) (fun k => G (ix1 k)) (fun k => B (ix1 k)) (fun k e => Wg (ix2 k e)) (fun e => bg (ix1 e)))

/-- Output `d` of expert `e` for token `t`. -/
def expert (X : FVec Ideal ⟨3, ![2, 2048, 768]⟩ .f32) (W1 : FVec Ideal ⟨3, ![8, 768, 512]⟩ .f32)
    (b1 : FVec Ideal ⟨2, ![8, 512]⟩ .f32) (W2 : FVec Ideal ⟨3, ![8, 512, 768]⟩ .f32) (b2 : FVec Ideal ⟨2, ![8, 768]⟩ .f32)
    (t : Fin 4096) (d : Fin 768) (e : Fin 8) : EReal :=
  expertOut (fun f => hidden (tokenRow X t) (fun k => W1 (ix3 e k f)) (b1 (ix2 e f))) (fun f => W2 (ix3 e f d)) (b2 (ix2 e d))

/-- The array of gate weights. -/
def gateArray (X : FVec Ideal ⟨3, ![2, 2048, 768]⟩ .f32) (G B : FVec Ideal ⟨1, ![768]⟩ .f32)
    (Wg : FVec Ideal ⟨2, ![768, 8]⟩ .f32) (bg : FVec Ideal ⟨1, ![8]⟩ .f32) : FVec Ideal ⟨2, ![4096, 8]⟩ .f32 :=
  fun i => gates X G B Wg bg (i 0) (i 1)

/-- The array of outputs: for each token the eight experts, each by the kernel's weight. -/
def outArray (X : FVec Ideal ⟨3, ![2, 2048, 768]⟩ .f32) (G B : FVec Ideal ⟨1, ![768]⟩ .f32)
    (Wg : FVec Ideal ⟨2, ![768, 8]⟩ .f32) (bg : FVec Ideal ⟨1, ![8]⟩ .f32) (W1 : FVec Ideal ⟨3, ![8, 768, 512]⟩ .f32)
    (b1 : FVec Ideal ⟨2, ![8, 512]⟩ .f32) (W2 : FVec Ideal ⟨3, ![8, 512, 768]⟩ .f32)
    (b2 : FVec Ideal ⟨2, ![8, 768]⟩ .f32) : FVec Ideal ⟨2, ![4096, 768]⟩ .f32 :=
  fun i => ∑ e, scale (gates X G B Wg bg (i 0)) e * expert X W1 b1 W2 b2 (i 0) (i 1) e

/-- The output, with only the sort's first two experts weighed. -/
theorem outArray_at (X : FVec Ideal ⟨3, ![2, 2048, 768]⟩ .f32) (G B : FVec Ideal ⟨1, ![768]⟩ .f32)
    (Wg : FVec Ideal ⟨2, ![768, 8]⟩ .f32) (bg : FVec Ideal ⟨1, ![8]⟩ .f32) (W1 : FVec Ideal ⟨3, ![8, 768, 512]⟩ .f32)
    (b1 : FVec Ideal ⟨2, ![8, 512]⟩ .f32) (W2 : FVec Ideal ⟨3, ![8, 512, 768]⟩ .f32)
    (b2 : FVec Ideal ⟨2, ![8, 768]⟩ .f32) (t : Fin 4096) (d : Fin 768) :
    outArray X G B Wg bg W1 b1 W2 b2 (ix2 t d) = chosen (gates X G B Wg bg t) (expert X W1 b1 W2 b2 t d) :=
  routing _ _

end Moe
-- ==== Proof.KernelArray.lean ====
/-
  What the kernel's two output arrays hold after the whole grid: the layer's outputs and gate weights over the arguments.
-/
module

public import proofs.«01_k».proof.Proof.KernelBlock
public import proofs.«01_k».proof.Proof.Layer
public import Idealize.ShloMosaic.Lib.Claim

@[expose] public section

set_option maxRecDepth 16384

noncomputable section

open Idealize.ShloMosaic Idealize.ShloMosaic.TcCoe Idealize.SL.Sem

namespace Cert.KernelIdeal.Block

open Cert.KernelIdeal Cert.KernelIdeal.Gen

variable (m : (ℓ : Loc nD τ sig) → Buf (Elt Ideal) ℓ) (c : Dev nD)

/-- Where each window's block lies at a grid point: the tokens and the two outputs move with the point, the rest stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0, 0] ∧ win0_6.index t = ![0, 0]
    ∧ win0_7.index t = ![0, 0, 0] ∧ win0_8.index t = ![0, 0] ∧ win0_9.index t = ![t.val, 0]
    ∧ win0_10.index t = ![t.val, 0] :=
  (by decide +kernel : ∀ t : Fin grid0.N, _)

/-- The tokens when the grid starts: the argument with its batches laid end to end. -/
theorem entry0 : V m c main_v0 = shapeCast S4096x768 (m ((c : Thread nD τ).loc main_arg0)) shapeCasts_S2x2048x768_S4096x768 :=
  rfl

/-- The layer norm's scale when the grid starts. -/
theorem entry1 : V m c main_v1 = shapeCast S1x768 (m ((c : Thread nD τ).loc main_arg1)) shapeCasts_S768_S1x768 := rfl

/-- The layer norm's offset when the grid starts. -/
theorem entry2 : V m c main_v2 = shapeCast S1x768 (m ((c : Thread nD τ).loc main_arg2)) shapeCasts_S768_S1x768 := rfl

/-- The router's bias when the grid starts. -/
theorem entry4 : V m c main_v3 = shapeCast S1x8 (m ((c : Thread nD τ).loc main_arg4)) shapeCasts_S8_S1x8 := rfl

/-- The token of row `r` of grid point `t`. -/
def token (t : Fin cfg0.N) (r : Fin 512) : Fin 4096 :=
  ⟨t.val * 512 + r.val, by have : t.val < 8 := t.isLt; omega⟩

/-- The tokens laid end to end, read at a token. -/
theorem tokens_at (X : FVec Ideal S2x2048x768 .f32) (T : Fin 4096) (k : Fin 768) :
    shapeCast S4096x768 X shapeCasts_S2x2048x768_S4096x768 (ix2 T k) = Moe.tokenRow X T k := by
  pointwise
  rfl

/-- A row of the block of tokens is the token's row. -/
theorem read0 (t : Fin cfg0.N) (r : Fin 512) (k : Fin 768) :
    (show FVec Ideal S512x768 .f32 from iblk m c 0 t) (ix2 r k) =
      Moe.tokenRow (m ((c : Thread nD τ).loc main_arg0)) (token t r) k := by
  have h : (show FVec Ideal S512x768 .f32 from iblk m c 0 t) (ix2 r k) =
      (show FVec Ideal S4096x768 .f32 from V m c main_v0) (ix2 (token t r) k) := by
    blk_ext [iblk, idx t, token]
  rw [h, entry0]
  exact tokens_at _ _ _

/-- The block of the layer norm's scale. -/
theorem read1 (t : Fin cfg0.N) (k : Fin 768) :
    (show FVec Ideal S1x768 .f32 from iblk m c 1 t) (ix2 0 k) = m ((c : Thread nD τ).loc main_arg1) (ix1 k) := by
  have h : (show FVec Ideal S1x768 .f32 from iblk m c 1 t) (ix2 0 k) =
      (show FVec Ideal S1x768 .f32 from V m c main_v1) (ix2 0 k) := by
    blk_ext [iblk, idx t]
  rw [h, entry1]
  pointwise

/-- The block of the layer norm's offset. -/
theorem read2 (t : Fin cfg0.N) (k : Fin 768) :
    (show FVec Ideal S1x768 .f32 from iblk m c 2 t) (ix2 0 k) = m ((c : Thread nD τ).loc main_arg2) (ix1 k) := by
  have h : (show FVec Ideal S1x768 .f32 from iblk m c 2 t) (ix2 0 k) =
      (show FVec Ideal S1x768 .f32 from V m c main_v2) (ix2 0 k) := by
    blk_ext [iblk, idx t]
  rw [h, entry2]
  pointwise

/-- The block of the router's bias. -/
theorem read4 (t : Fin cfg0.N) (e : Fin 8) :
    (show FVec Ideal S1x8 .f32 from iblk m c 4 t) (ix2 0 e) = m ((c : Thread nD τ).loc main_arg4) (ix1 e) := by
  have h : (show FVec Ideal S1x8 .f32 from iblk m c 4 t) (ix2 0 e) =
      (show FVec Ideal S1x8 .f32 from V m c main_v3) (ix2 0 e) := by
    blk_ext [iblk, idx t]
  rw [h, entry4]
  pointwise

/-- The block of the router's weights is the whole argument. -/
theorem read3 (t : Fin cfg0.N) : iblk m c 3 t = m ((c : Thread nD τ).loc main_arg3) := by
  blk_ext! [iblk, V, idx t]

/-- The block of the experts' first weights is the whole argument. -/
theorem read5 (t : Fin cfg0.N) : iblk m c 5 t = m ((c : Thread nD τ).loc main_arg5) := by
  blk_ext! [iblk, V, idx t]

/-- The block of the experts' first biases is the whole argument. -/
theorem read6 (t : Fin cfg0.N) : iblk m c 6 t = m ((c : Thread nD τ).loc main_arg6) := by
  blk_ext! [iblk, V, idx t]

/-- The block of the experts' second weights is the whole argument. -/
theorem read7 (t : Fin cfg0.N) : iblk m c 7 t = m ((c : Thread nD τ).loc main_arg7) := by
  blk_ext! [iblk, V, idx t]

/-- The block of the experts' second biases is the whole argument. -/
theorem read8 (t : Fin cfg0.N) : iblk m c 8 t = m ((c : Thread nD τ).loc main_arg8) := by
  blk_ext! [iblk, V, idx t]

/-- The gate weights of a row, over the arguments. -/
theorem gateRow_eq (t : Fin cfg0.N) (r : Fin 512) :
    gateRow (fun k => (show FVec Ideal S512x768 .f32 from iblk m c 0 t) (ix2 r k)) (iblk m c 1 t) (iblk m c 2 t)
      (iblk m c 3 t) (iblk m c 4 t) =
    Moe.gates (m ((c : Thread nD τ).loc main_arg0)) (m ((c : Thread nD τ).loc main_arg1))
      (m ((c : Thread nD τ).loc main_arg2)) (m ((c : Thread nD τ).loc main_arg3)) (m ((c : Thread nD τ).loc main_arg4))
      (token t r) := by
  rw [gateRow, Moe.gates, read3, funext fun k => read0 m c t r k, funext fun k => read1 m c t k,
    funext fun k => read2 m c t k, funext fun e => read4 m c t e]

/-- The gate weights a block leaves, over the arguments. -/
theorem block10 (t : Fin cfg0.N) (r : Fin 512) (e : Fin 8) :
    out0_10 (iblk m c 0 t) (iblk m c 1 t) (iblk m c 2 t) (iblk m c 3 t) (iblk m c 4 t) (iblk m c 5 t) (iblk m c 6 t)
      (iblk m c 7 t) (iblk m c 8 t) (ix2 r e) =
    Moe.gateArray (m ((c : Thread nD τ).loc main_arg0)) (m ((c : Thread nD τ).loc main_arg1))
      (m ((c : Thread nD τ).loc main_arg2)) (m ((c : Thread nD τ).loc main_arg3)) (m ((c : Thread nD τ).loc main_arg4))
      (ix2 (token t r) e) :=
  (out10_at _ _ _ _ _ _ _ _ _ r e).trans (congrFun (gateRow_eq m c t r) e)

/-- The output a block leaves, over the arguments. -/
theorem block9 (t : Fin cfg0.N) (r : Fin 512) (d : Fin 768) :
    out0_9 (iblk m c 0 t) (iblk m c 1 t) (iblk m c 2 t) (iblk m c 3 t) (iblk m c 4 t) (iblk m c 5 t) (iblk m c 6 t)
      (iblk m c 7 t) (iblk m c 8 t) (ix2 r d) =
    Moe.outArray (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (ix2 (token t r) d) := by
  refine (out9_at _ _ _ _ _ _ _ _ _ r d).trans ?_
  refine Finset.sum_congr rfl fun e _ => ?_
  refine congrArg₂ (· * ·) (congrArg (Moe.scale · e) (gateRow_eq m c t r)) ?_
  rw [read5, read6, read7, read8, funext fun k => read0 m c t r k]
  rfl

/-- The second output's array after the whole grid. -/
theorem final10 : (dats m 0 c).arrAt 10 (cfgs 0).N =
    Moe.gateArray (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 10 _ (by decide +kernel) fun t _ y => ?_
  blk_simp
  rw [after0_10]
  have hz : (show S512x8.Idx from y) = ix2 (y 0) (y 1) := by blk_ext
  have hy : (show S4096x8.Idx from (win0_10.blk t).view.emb y) = ix2 (token t (y 0)) (y 1) := by
    blk_ext [idx t, token]
  exact (congrArg _ hz).trans ((block10 m c t (y 0) (y 1)).trans (congrArg _ hy.symm))

/-- The first output's array after the whole grid. -/
theorem final9 : (dats m 0 c).arrAt 9 (cfgs 0).N =
    Moe.outArray (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  refine (dats m 0 c).arrAt_eq_of_covers 9 _ (by decide +kernel) fun t _ y => ?_
  blk_simp
  rw [after0_9]
  have hz : (show S512x768.Idx from y) = ix2 (y 0) (y 1) := by blk_ext
  have hy : (show S4096x768.Idx from (win0_9.blk t).view.emb y) = ix2 (token t (y 0)) (y 1) := by
    blk_ext [idx t, token]
  exact (congrArg _ hz).trans ((block9 m c t (y 0) (y 1)).trans (congrArg _ hy.symm))

end Cert.KernelIdeal.Block
-- ==== Proof.KernelRun.lean ====
/-
  The kernel program's run: both results over the arguments, and the arguments unchanged.
-/
module

public import proofs.«01_k».proof.Proof.KernelArray

@[expose] public section

set_option maxRecDepth 16384

noncomputable section

open Idealize.ShloMosaic Idealize.ShloMosaic.TcCoe Idealize.SL.Sem

namespace Cert.KernelIdeal.Block

open Cert.KernelIdeal Cert.KernelIdeal.Gen

variable (m : (ℓ : Loc nD τ sig) → Buf (Elt Ideal) ℓ) (ρ : Dev nD → PrngReg)

/-- The first result: the last reshape of the first output's array. -/
theorem tail_v5 (c : Dev nD) : Pipeline.afterTail₀ cfgs (dats m) 0 (V0 m) [hostOps1] c main_v5 =
    shapeCast S2x2048x768 ((dats m 0 c).arrAt 9 (cfgs 0).N) shapeCasts_S4096x768_S2x2048x768 := by
  have h : Pipeline.afterTail₀ cfgs (dats m) 0 (V0 m) [hostOps1] c main_v5 =
      shapeCast S2x2048x768 (Pipeline.withArrays (cfgs 0).spec c (V0 m c) (fun w => (dats m 0 c).arrAt w (cfgs 0).N)
        (Proc.devRef .tc main_v4_0)) shapeCasts_S4096x768_S2x2048x768 := rfl
  rw [h]
  exact congrArg (fun A => shapeCast S2x2048x768 A shapeCasts_S4096x768_S2x2048x768)
    (Pipeline.withArrays_arr (cfgs 0).spec (by exact (by decide : Function.Injective (Pipeline.arrRef spec0))) c (V0 m c)
      (fun w => (dats m 0 c).arrAt w (cfgs 0).N) 9)

/-- The run: the first result is the layer's output in its batches, the second the gate weights, the arguments stay. -/
theorem run : θ_run defs (onTc (τ := τ) (main (F := Ideal))) ⟨m, fun _ => 0, ρ⟩ (fun r => ∀ c : Dev nD,
      r.2.mem ((c.tc : Thread nD τ).loc main_v5) = shapeCast S2x2048x768 (Moe.outArray (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8))) shapeCasts_S4096x768_S2x2048x768
      ∧ r.2.mem ((c.tc : Thread nD τ).loc main_v4_1) = Moe.gateArray (m ((c : Thread nD τ).loc main_arg0))
        (m ((c : Thread nD τ).loc main_arg1)) (m ((c : Thread nD τ).loc main_arg2)) (m ((c : Thread nD τ).loc main_arg3))
        (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ⟨?_, (h.1 c).2, h.2 c⟩)
    (θ_run_and ((θ_run defs _ _).mono (Q' := fun r => ∀ c : Dev nD,
      r.2.mem ((c.tc : Thread nD τ).loc main_v5) = Pipeline.afterTail₀ cfgs (dats m) 0 (V0 m) [hostOps1] c main_v5
      ∧ r.2.mem ((c.tc : Thread nD τ).loc main_v4_1) = _) (fun r h c =>
        ⟨(h c).2 main_v5 (Pipeline.mem_restRefs_of main_v5 (by decide) (by decide)), ((h c).1 10).trans (final10 m c)⟩)
      (run_main m ρ)) (frame_of m ρ (dats m) (A_eq m) (run_main m ρ)))
  exact (h.1 c).1.trans ((tail_v5 m c).trans (by rw [final9]))

end Cert.KernelIdeal.Block
-- ==== Proof.RefTopK.lean ====
/-
  The reference's top-2 and its pick of the two experts' outputs, read at an index.
-/
module

public import proofs.«01_k».proof.Proof.Gen.ReferenceIdeal
public import proofs.«01_k».proof.Proof.Routing
public import Idealize.ShloMosaic.Lib.Pointwise

@[expose] public section

set_option maxRecDepth 16384

noncomputable section

open Idealize.ShloMosaic Idealize.ShloMosaic.TcCoe Idealize.SL.Sem

namespace Cert.ReferenceIdeal.RefValue

open Cert.ReferenceIdeal Cert.ReferenceIdeal.Gen

/-- A place among the first two, as a place among the eight. -/
abbrev up (q : Fin 2) : Fin 8 := q.castLE (by decide)

/-- An index of the gate weights moved along the experts. -/
theorem along_eq (t : Fin 4096) (e k : Fin 8) :
    Shape.Idx.along (s := S4096x8) (ix2 t e) (1 : Fin 2) k = (ix2 t k : S4096x8.Idx) := by
  funext a
  match a with
  | ⟨0, _⟩ => rfl
  | ⟨1, _⟩ => rfl

/-- Where the sort of a row takes the entry of place `e` from. -/
theorem sorted_eq (X : FVec Ideal S4096x8 .f32) (t : Fin 4096) (e : Fin 8) :
    sortedFrom (fun k k' : Fin 8 => FloatOps.cmpfTotal (F := Ideal) (φ := .f32) .gt
        (X (Shape.Idx.along (s := S4096x8) (ix2 t e) (1 : Fin 2) k))
        (X (Shape.Idx.along (s := S4096x8) (ix2 t e) (1 : Fin 2) k')) == 1#1) e =
      Moe.place (fun e => X (ix2 t e)) e := by
  simp only [along_eq]
  rfl

/-- The first operand of the sort, sorted. -/
theorem sort_fst (X : FVec Ideal S4096x8 .f32) (Y : IVec S4096x8 32) (t : Fin 4096) (e : Fin 8) :
    (Host.sort2 S4096x8 1 (fun l r => FloatOps.cmpfTotal (F := Ideal) (φ := .f32) .gt l.1 r.1) X Y).1 (ix2 t e) =
      X (ix2 t (Moe.place (fun e => X (ix2 t e)) e)) := by
  rw [← sorted_eq]
  unfold Host.sort2
  rw [dif_pos (by decide)]
  exact congrArg X (along_eq t e _)

/-- The second operand of the sort, carried along. -/
theorem sort_snd (X : FVec Ideal S4096x8 .f32) (Y : IVec S4096x8 32) (t : Fin 4096) (e : Fin 8) :
    (Host.sort2 S4096x8 1 (fun l r => FloatOps.cmpfTotal (F := Ideal) (φ := .f32) .gt l.1 r.1) X Y).2 (ix2 t e) =
      Y (ix2 t (Moe.place (fun e => X (ix2 t e)) e)) := by
  rw [← sorted_eq]
  unfold Host.sort2
  rw [dif_pos (by decide)]
  exact congrArg Y (along_eq t e _)

/-- The cut to the first two places. -/
theorem cut_eq (t : Fin 4096) (q : Fin 2) :
    (fun a => ⟨0 + ((ix2 t q : S4096x2.Idx) (a.cast sliceFits_S4096x8_S4096x2.1.symm)).val,
      Nat.lt_of_lt_of_le (Nat.add_lt_add_left (Fin.isLt _) _) (sliceFits_S4096x8_S4096x2.2 a)⟩ : S4096x8.Idx) =
      ix2 t (up q) := by
  funext a
  apply Fin.ext
  match a with
  | ⟨0, _⟩ => exact Nat.zero_add _
  | ⟨1, _⟩ => exact Nat.zero_add _

/-- The value in place `q` of the top two. -/
theorem topK_value (X : FVec Ideal S4096x8 .f32) (t : Fin 4096) (q : Fin 2) :
    (Host.topK S4096x2 1 (FloatOps.cmpfTotal (F := Ideal) (φ := .f32) .gt) X sliceFits_S4096x8_S4096x2).1 (ix2 t q) =
      X (ix2 t (Moe.place (fun e => X (ix2 t e)) (up q))) := by
  unfold Host.topK extractStridedSlice
  dsimp only
  exact (congrArg _ (cut_eq t q)).trans (sort_fst X _ t (up q))

/-- The position in place `q` of the top two. -/
theorem topK_position (X : FVec Ideal S4096x8 .f32) (t : Fin 4096) (q : Fin 2) :
    (Host.topK S4096x2 1 (FloatOps.cmpfTotal (F := Ideal) (φ := .f32) .gt) X sliceFits_S4096x8_S4096x2).2 (ix2 t q) =
      BitVec.ofNat 32 ↑(Moe.place (fun e => X (ix2 t e)) (up q)) := by
  unfold Host.topK extractStridedSlice
  dsimp only
  refine (congrArg _ (cut_eq t q)).trans ((sort_snd X _ t (up q)).trans ?_)
  rw [dif_pos (by decide)]
  rfl

/-- The pick reads the operand at the position the start index names. -/
theorem gather_at (X : FVec Ideal S4096x8x768 .f32) (idx : IVec S4096x2x1 32) (t : Fin 4096) (q : Fin 2) (k : Fin 768)
    (p : Fin 8) (h : idx (ix3 t q 0) = BitVec.ofNat 32 ↑p) :
    Host.gather gather_S4096x8x768_S4096x2x1_S4096x2x768_2_1_0_0_1_2_11768 X idx (ix3 t q k) = X (ix3 t p k) := by
  unfold Host.gather
  congr 1
  funext a
  apply Fin.ext
  have hs : min (idx (ix3 t q 0)).toInt.toNat (8 - 1) = p.val := by
    rw [h]; clear h; revert p; decide
  match a with
  | ⟨0, _⟩ =>
    show 0 + t.val + 0 = t.val
    omega
  | ⟨1, _⟩ =>
    show min (idx _).toInt.toNat (8 - 1) + 0 + 0 = p.val
    have hi : gather_S4096x8x768_S4096x2x1_S4096x2x768_2_1_0_0_1_2_11768.siIdx (ix3 t q k) ⟨0, by decide⟩ =
        (ix3 t q 0 : S4096x2x1.Idx) := by
      funext b
      match b with
      | ⟨0, _⟩ => rfl
      | ⟨1, _⟩ => rfl
      | ⟨2, _⟩ => rfl
    exact (congrArg (fun i => min (idx i).toInt.toNat (8 - 1) + 0 + 0) hi).trans hs
  | ⟨2, _⟩ =>
    show 0 + 0 + k.val = k.val
    omega

end Cert.ReferenceIdeal.RefValue
-- ==== Proof.RefValue.lean ====
/-
  What the reference's results hold, entry by entry: the same row functions as the kernel's.
-/
module

public import proofs.«01_k».proof.Proof.Gen.ReferenceIdeal.Run
public import proofs.«01_k».proof.Proof.RefTopK
public import proofs.«01_k».proof.Proof.Layer

@[expose] public section

set_option maxRecDepth 16384

noncomputable section

open Idealize.ShloMosaic Idealize.ShloMosaic.TcCoe Idealize.SL.Sem

namespace Cert.ReferenceIdeal.RefValue

open Cert.ReferenceIdeal Cert.ReferenceIdeal.Gen Cert.ReferenceIdeal.Value

variable (V0 : Valuation τ sig (Elt Ideal))

/-- The argument arrays the reference starts from, at their literal shapes. -/
abbrev X0 : FVec Ideal S2x2048x768 .f32 := V0 (Proc.devRef .tc main_arg0)
@[inherit_doc X0] abbrev X1 : FVec Ideal S768 .f32 := V0 (Proc.devRef .tc main_arg1)
@[inherit_doc X0] abbrev X2 : FVec Ideal S768 .f32 := V0 (Proc.devRef .tc main_arg2)
@[inherit_doc X0] abbrev X3 : FVec Ideal S768x8 .f32 := V0 (Proc.devRef .tc main_arg3)
@[inherit_doc X0] abbrev X4 : FVec Ideal S8 .f32 := V0 (Proc.devRef .tc main_arg4)
@[inherit_doc X0] abbrev X5 : FVec Ideal S8x768x512 .f32 := V0 (Proc.devRef .tc main_arg5)
@[inherit_doc X0] abbrev X6 : FVec Ideal S8x512 .f32 := V0 (Proc.devRef .tc main_arg6)
@[inherit_doc X0] abbrev X7 : FVec Ideal S8x512x768 .f32 := V0 (Proc.devRef .tc main_arg7)
@[inherit_doc X0] abbrev X8 : FVec Ideal S8x768 .f32 := V0 (Proc.devRef .tc main_arg8)

/-- The tokens laid end to end. -/
theorem v0_at (t : Fin 4096) (k : Fin 768) : res_main_v0 (F := Ideal) V0 (ix2 t k) = Moe.tokenRow (X0 V0) t k := by
  pointwise [res_main_v0]
  rfl

/-- The variance's divisor is the row length: nothing is taken off it. -/
theorem divisor_eq : Moe.width - FloatOps.sitofp (F := Ideal) .f32 0#32 = Moe.width := by
  show Moe.width - ((((0#32 : BitVec 32).toInt : ℤ) : ℝ) : EReal) = Moe.width
  simp

/-- The row length is positive. -/
theorem width_pos : 0 < Moe.width := by
  rw [Moe.width_eq]; exact_mod_cast (by norm_num : (0 : ℝ) < 768)

/-- The greatest logit of a token. -/
theorem max_at (v : FVec Ideal S4096x8 .f32) (t : Fin 4096) :
    Finset.fold max Moe.low v {i | reducesTo_S4096x8_S4096_d1.drop i = ix1 t} = Moe.top (fun e => v (ix2 t e)) :=
  Shape.ReducesTo.fold_fiber_r2_a1 _ (ix1 t) max _ v

/-- The router's logits. -/
theorem v22_at (t : Fin 4096) (e : Fin 8) :
    res_main_v22 (F := Ideal) V0 (ix2 t e) = Moe.logit (Moe.tokenRow (X0 V0) t) (fun k => X1 V0 (ix1 k))
      (fun k => X2 V0 (ix1 k)) (fun k e => X3 V0 (ix2 k e)) (fun e => X4 V0 (ix1 e)) e := by
  pointwise [res_main_v22, res_main_call0_v8, res_main_call0_v5]
  simp only [divisor_eq, if_pos width_pos, v0_at]
  simp only [Moe.logit, ← Moe.normed_eq]
  rfl

/-- The gate weights. -/
theorem v33_at (t : Fin 4096) (e : Fin 8) :
    res_main_v33 (F := Ideal) V0 (ix2 t e) = Moe.gates (X0 V0) (X1 V0) (X2 V0) (X3 V0) (X4 V0) t e := by
  pointwise [res_main_v33, res_main_v29]
  have hm : max Moe.low (Moe.top (fun e => res_main_v22 (F := Ideal) V0 (ix2 t e))) =
      Moe.top (fun e => res_main_v22 (F := Ideal) V0 (ix2 t e)) := by
    rw [Moe.low_eq]; exact max_eq_right bot_le
  erw [max_at (res_main_v22 V0) t]
  rw [hm, funext fun e => v22_at V0 t e]
  simp only [v22_at]
  rfl

/-- The hidden values of the experts. -/
theorem v41_at (t : Fin 4096) (e : Fin 8) (f : Fin 512) :
    res_main_v41 (F := Ideal) V0 (ix3 t e f) =
      Moe.hidden (Moe.tokenRow (X0 V0) t) (fun k => X5 V0 (ix3 e k f)) (X6 V0 (ix2 e f)) := by
  pointwise [res_main_v41]
  simp only [v0_at]
  rfl

/-- The greatest two gate weights of a token. -/
theorem values_at (t : Fin 4096) (q : Fin 2) :
    res_main_values (F := Ideal) V0 (ix2 t q) = res_main_v33 V0 (ix2 t (Moe.place (fun e => res_main_v33 V0 (ix2 t e)) (up q))) :=
  topK_value _ t q

/-- An expert's number is not negative, so the wrap-around of negative numbers leaves it. -/
theorem nonneg_number : ∀ p : Fin 8, Scalar.select (IntOp.cmpi CmpIPredicate.slt (BitVec.ofNat 32 ↑p) 0#32)
    (IntOp.addi (BitVec.ofNat 32 ↑p) 8#32) (BitVec.ofNat 32 ↑p) = BitVec.ofNat 32 ↑p := by
  decide

/-- An expert's number is in range. -/
theorem number_in_range : ∀ p : Fin 8, IntOp.andi (IntOp.cmpi CmpIPredicate.sge (BitVec.ofNat 32 ↑p) 0#32)
    (IntOp.cmpi CmpIPredicate.sle (BitVec.ofNat 32 ↑p) 7#32) = 1#1 := by
  decide

/-- A conjunction over an axis of length one. -/
theorem all_at (v : IVec S4096x2x1 1) (t : Fin 4096) (q : Fin 2) :
    Finset.fold IntOp.andi (1#1) v {i | reducesTo_S4096x2x1_S4096x2_d2.drop i = ix2 t q} = v (ix3 t q 0) := by
  refine (Shape.ReducesTo.fold_fiber_r3_a2 _ (ix2 t q) IntOp.andi _ v).trans ?_
  refine (Finset.fold_singleton (op := IntOp.andi) (b := 1#1) (f := fun k : Fin 1 => v (ix3 t q k)) (a := 0)).trans ?_
  generalize v (ix3 t q 0) = b
  revert b; decide

/-- Their experts' numbers, which the pick starts from: not negative, so left as they are. -/
theorem call1_v4_at (t : Fin 4096) (q : Fin 2) :
    res_main_call1_v4 (F := Ideal) V0 (ix3 t q 0) =
      BitVec.ofNat 32 ↑(Moe.place (fun e => res_main_v33 V0 (ix2 t e)) (up q)) := by
  pointwise [res_main_call1_v4, res_main_v56]
  rw [topK_position]
  exact nonneg_number _

/-- The hidden values at their literal shape. -/
abbrev hid : FVec Ideal S4096x8x512 .f32 := res_main_v41 V0

/-- The outputs of all eight experts, as the reference lays them out. -/
def experts : FVec Ideal S4096x8x768 .f32 :=
  addf (transpose S4096x8x768 [2, 0, 1] (Host.dotGeneral dot_S8x512x768_S4096x8x512_S8x768x4096_1_2_2_0_0_1 none (X7 V0) (mulf (mulf (broadcastInDim S4096x8x512 ![] bcast_S_S4096x8x512 (constant S_ .f32 0x3F000000#32)) (hid V0)) (addf (broadcastInDim S4096x8x512 ![] bcast_S_S4096x8x512 (constant S_ .f32 0x3F800000#32)) (Host.erf (Host.divf (hid V0) (broadcastInDim S4096x8x512 ![] bcast_S_S4096x8x512 (Host.sqrt (constant S_ .f32 0x40000000#32)))))))) transposes_S8x768x4096_S4096x8x768_2_0_1) (broadcastInDim S4096x8x768 ![0, 1, 2] bcast_S1x8x768_S4096x8x768_0_1_2 (broadcastInDim S1x8x768 ![1, 2] bcast_S8x768_S1x8x768_1_2 (X8 V0)))

/-- The outputs of the experts, entry by entry. -/
theorem experts_at (t : Fin 4096) (e : Fin 8) (d : Fin 768) :
    experts V0 (ix3 t e d) = Moe.expert (X0 V0) (X5 V0) (X6 V0) (X7 V0) (X8 V0) t d e := by
  pointwise [experts]
  simp only [v41_at, Moe.gelu_eq]
  simp only [mul_comm (X7 V0 _)]
  rfl

/-- The reference's output before its last reshape. -/
def total : FVec Ideal S4096x768 .f32 :=
  Host.reduceAdd (mulf (broadcastInDim S4096x2x768 ![0, 1, 2] bcast_S4096x2x1_S4096x2x768_0_1_2 (broadcastInDim S4096x2x1 ![0, 1] bcast_S4096x2_S4096x2x1_0_1 (Host.divf (res_main_values V0) (broadcastInDim S4096x2 ![0, 1] bcast_S4096x1_S4096x2_0_1 (broadcastInDim S4096x1 ![0] bcast_S4096_S4096x1_0 (Host.reduceAdd (res_main_values V0) (constant S_ .f32 0x00000000#32) reducesTo_S4096x2_S4096_d1 h_S_)))))) (select (broadcastInDim S4096x2x768 ![0, 1] bcast_S4096x2_S4096x2x768_0_1 (Host.reduce IntOp.andi (andi (cmpi .sge (res_main_call1_v4 V0) (broadcastInDim S4096x2x1 ![] bcast_S_S4096x2x1 (constantI S_ 32 0#32))) (cmpi .sle (res_main_call1_v4 V0) (broadcastInDim S4096x2x1 ![0, 1, 2] bcast_S1x1x1_S4096x2x1_0_1_2 (broadcastInDim S1x1x1 ![2] bcast_S1_S1x1x1_2 (constantI S1 32 7#32))))) (constantI S_ 1 1#1) reducesTo_S4096x2x1_S4096x2_d2 h_S_)) (Host.gather gather_S4096x8x768_S4096x2x1_S4096x2x768_2_1_0_0_1_2_11768 (experts V0) (res_main_call1_v4 V0)) (broadcastInDim S4096x2x768 ![] bcast_S_S4096x2x768 (constant S_ .f32 0x7FC00000#32)))) (constant S_ .f32 0x00000000#32) reducesTo_S4096x2x768_S4096x768_d1 h_S_

/-- The reference's output, entry by entry. -/
theorem total_at (t : Fin 4096) (d : Fin 768) :
    total V0 (ix2 t d) =
      Moe.chosen (Moe.gates (X0 V0) (X1 V0) (X2 V0) (X3 V0) (X4 V0) t) (Moe.expert (X0 V0) (X5 V0) (X6 V0) (X7 V0) (X8 V0) t d) := by
  pointwise [total]
  simp only [gather_at _ _ _ _ _ _ (call1_v4_at V0 _ _), values_at, v33_at, experts_at]
  refine Finset.sum_congr rfl fun q _ => ?_
  have hin := (all_at (fun x => IntOp.andi (IntOp.cmpi CmpIPredicate.sge (res_main_call1_v4 V0 x) 0#32)
    (IntOp.cmpi CmpIPredicate.sle (res_main_call1_v4 V0 x) 7#32)) t q).trans
    ((congrArg (fun b => IntOp.andi (IntOp.cmpi CmpIPredicate.sge b 0#32) (IntOp.cmpi CmpIPredicate.sle b 7#32))
      (call1_v4_at V0 t q)).trans (number_in_range _))
  erw [hin]
  rfl

/-- The reference's output array. -/
theorem total_eq :
    total V0 = Moe.outArray (X0 V0) (X1 V0) (X2 V0) (X3 V0) (X4 V0) (X5 V0) (X6 V0) (X7 V0) (X8 V0) := by
  funext i
  obtain ⟨t, d, rfl⟩ : ∃ t d, i = ix2 t d := ⟨i 0, i 1, eq_ix2 i⟩
  exact (total_at V0 t d).trans (Moe.outArray_at ..).symm

/-- The reference's gate array. -/
theorem gates_eq :
    (show FVec Ideal S4096x8 .f32 from res_main_v33 V0) = Moe.gateArray (X0 V0) (X1 V0) (X2 V0) (X3 V0) (X4 V0) := by
  funext i
  obtain ⟨t, e, rfl⟩ : ∃ t e, i = ix2 t e := ⟨i 0, i 1, eq_ix2 i⟩
  exact v33_at V0 t e

end Cert.ReferenceIdeal.RefValue
-- ==== Proof.RefRun.lean ====
/-
  The reference program's run: both results over the arguments, and the arguments unchanged.
-/
module

public import proofs.«01_k».proof.Proof.RefValue

@[expose] public section

set_option maxRecDepth 16384

noncomputable section

open Idealize.ShloMosaic Idealize.ShloMosaic.TcCoe Idealize.SL.Sem Idealize.ShloMosaic.StableHlo

namespace Cert.ReferenceIdeal.RefValue

open Cert.ReferenceIdeal Cert.ReferenceIdeal.Gen Cert.ReferenceIdeal.Value

variable (m : (ℓ : Loc nD τ sig) → Buf (Elt Ideal) ℓ) (ρ : Dev nD → PrngReg)

/-- The run: the first result is the layer's output in its batches, the second the gate weights, the arguments stay. -/
theorem run_layer : θ_run defs (onTc (τ := τ) (main (F := Ideal))) ⟨m, fun _ => 0, ρ⟩ (fun r => ∀ c : Dev nD,
      r.2.mem ((c.tc : Thread nD τ).loc main_v62) = shapeCast S2x2048x768 (Moe.outArray (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8))) shapeCasts_S4096x768_S2x2048x768
      ∧ r.2.mem ((c.tc : Thread nD τ).loc main_v33) = Moe.gateArray (m ((c : Thread nD τ).loc main_arg0))
        (m ((c : Thread nD τ).loc main_arg1)) (m ((c : Thread nD τ).loc main_arg2)) (m ((c : Thread nD τ).loc main_arg3))
        (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans
      (congrArg (fun A => shapeCast S2x2048x768 A shapeCasts_S4096x768_S2x2048x768) (total_eq (launchContents m c))),
    (h c).2.1.trans (gates_eq (launchContents m c)), (h c).2.2⟩) (Value.run (F := Ideal) m ρ)

end Cert.ReferenceIdeal.RefValue
-- ==== Proof.lean ====
/-
  The proof of `Cert.Claim`: three frames, the named constant, and the equation of the two programs' results.
  The mathematics lies in the modules this one imports; here the parts are put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefRun
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as printed runs, leaves its arguments and ends with every counter at zero. -/
theorem frame_P : Cert.quiescent_Kernel := fun m ρ _ => Cert.Kernel.Gen.frame m ρ

/-- So does the idealized kernel. -/
theorem frame_PI : Cert.quiescent_KernelIdeal := fun m ρ _ => Cert.KernelIdeal.Gen.frame m ρ

/-- So does the idealized reference, which has no counters. -/
theorem frame_RI : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run m ρ)

/-- The named constant: the kernel's rounded literal stands for one over the square root of two. -/
theorem preserves : Cert.preserves_Kernel_KernelIdeal :=
  IdealRules.named_const.statement Cert.KernelIdeal.κ "inv_sqrt2" .f32 0x3F3504F3#32 (((Real.sqrt 2)⁻¹ : ℝ) : EReal) rfl

/-- The idealized kernel and the idealized reference leave the same two arrays. -/
theorem algebraic : Cert.algebraic_KernelIdeal_ReferenceIdeal := by
  intro m ρ m' ρ' _ hagree
  refine ⟨_, _, Cert.KernelIdeal.Block.run m ρ, ?_⟩
  refine (θ_run Cert.ReferenceIdeal.defs _ _).mono (fun _ h c => ⟨(h c).1.trans ?_, (h c).2.1.trans ?_, (h c).2.2⟩)
    (Cert.ReferenceIdeal.RefValue.run_layer m' ρ')
  all_goals
    obtain ⟨h0, h1, h2, h3, h4, h5, h6, h7, h8⟩ := hagree c
  · rw [h0, h1, h2, h3, h4, h5, h6, h7, h8]
  · rw [h0, h1, h2, h3, h4]

/-- Everything the certificate claims. -/
theorem claim : Cert.Claim := ⟨Cert.Kernel.Gen.facts, Cert.KernelIdeal.Gen.facts, Cert.ReferenceIdeal.Gen.facts,
  frame_P, frame_PI, frame_RI, preserves, algebraic⟩

end Cert.Proof

end
